-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x1024 : Shape := ⟨3, ![4, 8192, 1024]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S4x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S4x8192x1024 : Shape := ⟨3, ![4, 8192, 1024]⟩
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x8192x1024, .f32⟩
  | .hbm, ⟨27, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.PosEnc.Spec.lean ====
/-
  What both programs compute: the table's rows, one after the other, once per batch entry. Stated for entries of any
  type, so that it serves the words of a float and the extended reals alike.
-/
module

public import Idealize.ShloMosaic.Lib.ValueIdxCore

@[expose] public section

namespace Cert.PosEnc

open Idealize.ShloMosaic Idealize.ShloMosaic.ValueIdx

/-- The table: 8192 positions, a row of 1024 entries for each. -/
abbrev Tab : Shape := ⟨2, ![8192, 1024]⟩
/-- The result: for each of 4 batch entries, one row per position. -/
abbrev Out : Shape := ⟨3, ![4, 8192, 1024]⟩

/-- The table repeated over the batch: entry `(n, l, d)` of the result is entry `(l, d)` of the table. -/
def repeated {α : Type} (T : Tab.Idx → α) : Out.Idx → α := fun i => T (ix2 (i 1) (i 2))

end Cert.PosEnc

end
-- ==== Proof.PosEnc.Lookup.lean ====
/-
  The reference's mathematics, read at an index: the embedding lookup of the positions 0 … 8191, repeated over the batch.
  The lookup wraps a negative position to the table's end, gathers the rows, and replaces a row whose position is
  outside the table by a fill value. The positions are an iota, so none is negative and none is outside: position `p`
  reads row `p`, and the fill value appears nowhere. The statements speak of any proofs of the operations' side
  conditions, any entries and any fill value, so one proof serves both readings of the reference.
-/
module

public import proofs.«01_k».proof.Proof.PosEnc.Spec
public import Idealize.ShloMosaic.Lib.Pipeline.Value
public import Idealize.ShloMosaic.Lib.Pointwise.Reduce
public import Idealize.ShloMosaic.Lib.Routing.Ops
public import Idealize.ShloMosaic.Lib.Routing.OpsPair
public import Idealize.ShloMosaic.Lib.StableHlo.Predicate

@[expose] public section

noncomputable section

namespace Cert.PosEnc

open Idealize.ShloMosaic hiding ix1 ix2 ix3
open Idealize.ShloMosaic.ValueIdx Idealize.ShloMosaic.StableHlo.Predicate

/-- The scalar shape, the vector of positions, and the column that the gather reads its positions from. -/
abbrev Sc : Shape := ⟨0, ![]⟩
abbrev Pos : Shape := ⟨1, ![8192]⟩
abbrev Col : Shape := ⟨2, ![8192, 1]⟩

/-- The word of a position: it is its own number. -/
theorem toNat_pos (p : Fin 8192) : (BitVec.ofNat 32 p.val).toNat = p.val := by
  have := p.isLt
  rw [BitVec.toNat_ofNat]; exact Nat.mod_eq_of_lt (by omega)

/-- The positions to look up, a negative one wrapped to the table's end, as the column that the gather takes. -/
abbrev column (hs : Sc.BroadcastsInDim Pos ![]) (hc : Pos.BroadcastsInDim Col ![0]) : IVec Col 32 :=
  broadcastInDim Col ![0] hc
    (select (cmpi .slt (iotaInDim Pos 32 0) (broadcastInDim Pos ![] hs (constantI Sc 32 0#32)))
      (addi (iotaInDim Pos 32 0) (broadcastInDim Pos ![] hs (constantI Sc 32 8192#32))) (iotaInDim Pos 32 0))

/-- Row `p` of that column holds the position `p`: no position is negative. -/
theorem column_apply (hs : Sc.BroadcastsInDim Pos ![]) (hc : Pos.BroadcastsInDim Col ![0]) (p : Fin 8192) (q : Fin 1) :
    column hs hc (ix2 p q) = BitVec.ofNat 32 p.val := by
  rw [column, broadcastInDim_apply _ _ _ _ (ix1 p) (fun | ⟨0, _⟩ => rfl)]
  exact Routing.wrap_of_lt (BitVec.ofNat 32 p.val) _ (by rw [toNat_pos]; have := p.isLt; omega)

/-- Which positions are inside the table, from 0 to 8191: the lookup's bounds check. -/
abbrev inside (h0 : Sc.BroadcastsInDim Col ![]) (h1 : (⟨1, ![1]⟩ : Shape).BroadcastsInDim ⟨2, ![1, 1]⟩ ![1])
    (h2 : (⟨2, ![1, 1]⟩ : Shape).BroadcastsInDim Col ![0, 1]) (hr : Col.ReducesTo [1] Pos) (hn : 0 < Sc.numel)
    (idx : IVec Col 32) : IVec Pos 1 :=
  Host.reduce IntOp.andi
    (andi (cmpi .sge idx (broadcastInDim Col ![] h0 (constantI Sc 32 0#32)))
      (cmpi .sle idx (broadcastInDim Col ![0, 1] h2 (broadcastInDim ⟨2, ![1, 1]⟩ ![1] h1 (constantI ⟨1, ![1]⟩ 32 8191#32)))))
    (constantI Sc 1 1#1) hr hn

/-- Every position passes the check. -/
theorem inside_apply (h0 : Sc.BroadcastsInDim Col ![]) (h1 : (⟨1, ![1]⟩ : Shape).BroadcastsInDim ⟨2, ![1, 1]⟩ ![1])
    (h2 : (⟨2, ![1, 1]⟩ : Shape).BroadcastsInDim Col ![0, 1]) (hr : Col.ReducesTo [1] Pos) (hn : 0 < Sc.numel)
    (idx : IVec Col 32) (hidx : ∀ (p : Fin 8192) (q : Fin 1), idx (ix2 p q) = BitVec.ofNat 32 p.val) (j : Pos.Idx) :
    inside h0 h1 h2 hr hn idx j = 1#1 := by
  rw [inside, Host.reduce_eq_fold, Shape.ReducesTo.fold_fiber_r2_a1]
  have hbit (p : Fin 8192) (q : Fin 1) :
      IntOp.andi (IntOp.cmpi .sge (idx (ix2 p q)) 0#32) (IntOp.cmpi .sle (idx (ix2 p q)) 8191#32) = 1#1 := by
    have hp := p.isLt
    rw [hidx, (sge_iff_toNat (by rw [toNat_pos]; omega) (by decide)).mpr (Nat.zero_le _),
      (sle_iff_toNat (by rw [toNat_pos]; omega) (by decide)).mpr (by rw [toNat_pos]; show p.val ≤ 8191; omega)]
    rfl
  rw [Finset.univ_unique, Finset.fold_singleton]
  exact (congrArg (IntOp.andi · _) (hbit _ _)).trans (show IntOp.andi 1#1 1#1 = 1#1 by decide)

/-- THE REFERENCE: the rows gathered at the positions, the fill value where a position is outside, a batch axis put in
    front and repeated. It is the table repeated over the batch. -/
theorem lookup {α : Type} (hs : Sc.BroadcastsInDim Pos ![]) (hc : Pos.BroadcastsInDim Col ![0])
    (h0 : Sc.BroadcastsInDim Col ![]) (h1 : (⟨1, ![1]⟩ : Shape).BroadcastsInDim ⟨2, ![1, 1]⟩ ![1])
    (h2 : (⟨2, ![1, 1]⟩ : Shape).BroadcastsInDim Col ![0, 1]) (hr : Col.ReducesTo [1] Pos) (hn : 0 < Sc.numel)
    (hm : Pos.BroadcastsInDim Tab ![0]) (hb1 : Tab.BroadcastsInDim ⟨3, ![1, 8192, 1024]⟩ ![1, 2])
    (hb4 : (⟨3, ![1, 8192, 1024]⟩ : Shape).BroadcastsInDim Out ![0, 1, 2])
    (d : GatherDims Tab Col Tab) (hoff : d.offsetDims = [1]) (hcoll : d.collapsedSliceDims = [0])
    (hob : d.operandBatchingDims = []) (hsim : d.startIndexMap = [0]) (hivd : d.indexVectorDim = 1)
    (T : Tab.Idx → α) (fill : Tab.Idx → α) :
    broadcastInDim Out ![0, 1, 2] hb4 (broadcastInDim ⟨3, ![1, 8192, 1024]⟩ ![1, 2] hb1
      (select (broadcastInDim Tab ![0] hm (inside h0 h1 h2 hr hn (column hs hc))) (Host.gather d T (column hs hc)) fill))
      = repeated T := by
  funext i
  have hrow : ∀ (l : Fin 8192) (e : Fin 1024), select (broadcastInDim Tab ![0] hm (inside h0 h1 h2 hr hn (column hs hc)))
      (Host.gather d T (column hs hc)) fill (ix2 l e) = T (ix2 l e) := fun l e => by
    rw [select_apply, broadcastInDim_apply _ _ _ _ (ix1 l) (fun | ⟨0, _⟩ => rfl),
      inside_apply h0 h1 h2 hr hn _ (column_apply hs hc), select_one]
    exact Routing.gather_row d hoff hcoll hob hsim hivd T _ l e l (column_apply hs hc _ _) (by decide)
  rw [broadcastInDim_apply _ _ _ _ (ix3 (n0 := 1) (n1 := 8192) (n2 := 1024) 0 (i 1) (i 2))
      (fun | ⟨0, _⟩ => rfl | ⟨1, _⟩ => rfl | ⟨2, _⟩ => rfl),
    broadcastInDim_apply _ _ _ _ (ix2 (n0 := 8192) (n1 := 1024) (i 1) (i 2)) (fun | ⟨0, _⟩ => rfl | ⟨1, _⟩ => rfl)]
  exact hrow (i 1) (i 2)

end Cert.PosEnc

end
-- ==== Proof.PosEnc.OnKernelIdeal.lean ====
/-
  The kernel's idealization, block by block: grid point `t` copies 1024 rows of the table into batch entry `t mod 4` of the result,
  the rows of position block `t / 4`. The 32 blocks tile the result, so the result is the table repeated over the batch.
  Stated for float values of any reading.
-/
module

public import proofs.«01_k».proof.Proof.PosEnc.Spec
public import proofs.«01_k».proof.Proof.Gen.KernelIdeal.Value

@[expose] public section

noncomputable section

namespace Cert.PosEnc.OnKernelIdeal

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The table that device `c` is launched with, repeated over the batch: what the result is shown to hold. -/
abbrev result (c : Dev nD) : Buf (Elt F) ((c : Thread nD τ).loc main_v0) :=
  repeated (α := Elt F .f32) (m ((c : Thread nD τ).loc main_arg1))

/-- Point `t` reads row block `t / 4` of the table. -/
theorem index_in : ∀ t : Fin grid0.N, win0_0.index t 0 = t.val / 4 ∧ win0_0.index t 1 = 0 := by decide +kernel

/-- Point `t` writes row block `t / 4` of batch entry `t mod 4`. -/
theorem index_out : ∀ t : Fin grid0.N,
    win0_1.index t 0 = t.val % 4 ∧ win0_1.index t 1 = t.val / 4 ∧ win0_1.index t 2 = 0 := by decide +kernel

/-- What the body leaves in the staged block, from the table's block: that block, under one batch entry. -/
theorem block_apply (x : Vec F S1024x1024 .f32) (y : S1x1024x1024.Idx) : out0_1 x y = x (ix2 (y 1) (y 2)) := by
  unfold out0_1
  rw [View.ld_unit_zero (funext fun a => by fin_cases a <;> rfl), Value.canon1_eq]
  exact congrArg x (funext fun | ⟨0, _⟩ => rfl | ⟨1, _⟩ => rfl)

/-- Entry `y` of the block that point `t` writes back is the repeated table's entry at the place of `y` in the result. -/
theorem flushed_eq (c : Dev nD) (t : Fin cfg0.N) :
    (dats m 0 c).flushed 1 t = ((cfg0.win 1).blk t).view.read (Elt F) (result m c) := by
  rw [Value.flushed1]
  funext y
  show out0_1 (iblk m c 0 t) y = result m c ((win0_1.rect t).emb y)
  rw [block_apply]
  show m ((c : Thread nD τ).loc main_arg1) ((win0_0.rect t).emb (ix2 (y 1) (y 2))) = m ((c : Thread nD τ).loc main_arg1) _
  refine congrArg _ (funext fun a => Fin.ext ?_)
  have hi := index_in t
  have ho := index_out t
  match a with
  | ⟨0, _⟩ =>
    refine (win0_0.rect_emb_val t _ 0).trans (Eq.trans ?_ (win0_1.rect_emb_val t y 1).symm)
    rw [hi.1, ho.2.1]; rfl
  | ⟨1, _⟩ =>
    refine (win0_0.rect_emb_val t _ 1).trans (Eq.trans ?_ (win0_1.rect_emb_val t y 2).symm)
    rw [hi.2, ho.2.2]; rfl

/-- The blocks tile the result: entry `(n, l, d)` is in the block of the point `4 (l / 1024) + n`. -/
theorem cover (i : S4x8192x1024.Idx) :
    ∃ t : Fin cfg0.N, (cfg0.win 1).flush t = true ∧ i ∈ ((cfg0.win 1).blk t).view.set := by
  have h0 : (i 0).val < 4 := (i 0).isLt
  have h1 : (i 1).val < 8192 := (i 1).isLt
  have h2 : (i 2).val < 1024 := (i 2).isLt
  have hN : cfg0.N = 32 := N_0
  refine ⟨⟨(i 1).val / 1024 * 4 + (i 0).val, by omega⟩, flush0_1 _, ?_⟩
  generalize ht : (⟨(i 1).val / 1024 * 4 + (i 0).val, _⟩ : Fin cfg0.N) = t
  have hv : t.val = (i 1).val / 1024 * 4 + (i 0).val := by rw [← ht]
  show i ∈ ((View.whole main_v0).slice (win0_1.rect t)).set
  rw [View.set_slice_whole, Rect.mem_set_unit]
  obtain ⟨e0, e1, e2⟩ := index_out t
  intro a
  match a with
  | ⟨0, _⟩ => show win0_1.index t 0 * 1 ≤ (i 0).val ∧ (i 0).val < win0_1.index t 0 * 1 + 1; omega
  | ⟨1, _⟩ => show win0_1.index t 1 * 1024 ≤ (i 1).val ∧ (i 1).val < win0_1.index t 1 * 1024 + 1024; omega
  | ⟨2, _⟩ => show win0_1.index t 2 * 1024 ≤ (i 2).val ∧ (i 2).val < win0_1.index t 2 * 1024 + 1024; omega

/-- The kernel's run, read: the result is the table repeated over the batch, the arguments are unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono
    (fun _ h c => ⟨(h c).1.trans ((dats m 0 c).arrAt_eq_of_cover 1 (result m c) (fun t _ => flushed_eq m c t) cover), (h c).2⟩)
    (Value.run_blocks m ρ)

end Cert.PosEnc.OnKernelIdeal

end
-- ==== Proof.lean ====
/-
  The certificate of the learned positional encoding. The kernel and the reference each compute the table repeated over
  the batch (`Cert.PosEnc.repeated`): the kernel by `OnKernel.run` and `OnKernelIdeal.run`, the reference by `lookup`.
  Both statements hold for float values of any reading, so they give the equality word for word and the equality over
  the extended reals.
-/
module

public import proofs.«01_k».proof.Defs
public import proofs.«01_k».proof.Proof.PosEnc.Lookup
public import proofs.«01_k».proof.Proof.PosEnc.OnKernel
public import proofs.«01_k».proof.Proof.PosEnc.OnKernelIdeal
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import Idealize.ShloMosaic.Lib.Quiescent

@[expose] public section

noncomputable section

namespace Cert.Proof

open Idealize.ShloMosaic Idealize.SL.Sem

/-- The reference runs, leaves its arguments unchanged, and has no semaphore. -/
theorem frame_reference : Cert.quiescent_Reference := fun m ρ _ =>
  (θ_run Cert.Reference.defs _ _).mono
    (fun r h => ⟨fun c => (h c).2, sem_eq_zero_of_no_sems (by decide) r.2⟩) (Cert.Reference.Value.run m ρ)

/-- The same of the reference's idealization. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- Kernel and reference leave the same words: each the table's, repeated over the batch. -/
theorem bitexact : Cert.bitexact_Kernel_Reference := by
  intro m ρ m' ρ' _ hagree
  refine ⟨PosEnc.OnKernel.result m, PosEnc.OnKernel.run m ρ, ?_⟩
  refine (θ_run Cert.Reference.defs _ _).mono (fun r h c => ⟨(h c).1.trans ?_, (h c).2⟩) (Cert.Reference.Value.run m' ρ')
  rw [(hagree c).2]
  exact PosEnc.lookup _ _ _ _ _ _ _ _ _ _ _ rfl rfl rfl rfl rfl _ _

/-- Over the extended reals kernel and reference compute the same function: the table repeated over the batch. -/
theorem algebraic : Cert.algebraic_KernelIdeal_ReferenceIdeal := by
  intro m ρ m' ρ' _ hagree
  refine ⟨PosEnc.OnKernelIdeal.result m, PosEnc.OnKernelIdeal.run m ρ, ?_⟩
  refine (θ_run Cert.ReferenceIdeal.defs _ _).mono (fun r h c => ⟨(h c).1.trans ?_, (h c).2⟩)
    (Cert.ReferenceIdeal.Value.run m' ρ')
  rw [(hagree c).2]
  exact PosEnc.lookup _ _ _ _ _ _ _ _ _ _ _ rfl rfl rfl rfl rfl _ _

/-- Everything that the certificate claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    frame_reference, frame_referenceIdeal, trivial, algebraic, bitexact⟩

end Cert.Proof

end
